-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x32x1024 : Shape := ⟨3, ![32, 32, 1024]⟩
abbrev S512x32 : Shape := ⟨2, ![512, 32]⟩
abbrev S_ : Shape := ⟨0, ![]⟩

class Facts : Prop where
  bcast_S_S32x32x1024 : S_.BroadcastsInDim S32x32x1024 (![] : Fin 0 → Fin S32x32x1024.rank)
  reducesTo_S32x32x1024_S_d0_1_2 : S32x32x1024.ReducesTo [0, 1, 2] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x32x1024 .f32) (main_arg1 : FVec F S512x32 .f32) : IVec S_ 1 :=
  let main_v0 : FVec F S32x32x1024 .f32 := Host.absf main_arg0
  let main_cst : FVec F S_ .f32 := constant S_ .f32 0x7F800000#32
  let main_v1 : FVec F S32x32x1024 .f32 := broadcastInDim S32x32x1024 ![] bcast_S_S32x32x1024 main_cst
  let main_v2 : IVec S32x32x1024 1 := cmpf .olt main_v0 main_v1
  let main_c : IVec S_ 1 := constantI S_ 1 1#1
  let main_v3 : IVec S_ 1 := (fun x v => Host.reduce IntOp.andi x v reducesTo_S32x32x1024_S_d0_1_2 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S32x32x1024 : Shape := ⟨3, ![32, 32, 1024]⟩
abbrev S512x32 : Shape := ⟨2, ![512, 32]⟩
abbrev S4x8x1024 : Shape := ⟨3, ![4, 8, 1024]⟩
abbrev S8x32x1024 : Shape := ⟨3, ![8, 32, 1024]⟩
abbrev S1x8x1024 : Shape := ⟨3, ![1, 8, 1024]⟩
abbrev S512x8 : Shape := ⟨2, ![512, 8]⟩
abbrev S512x4 : Shape := ⟨2, ![512, 4]⟩
abbrev S512x2 : Shape := ⟨2, ![512, 2]⟩
abbrev S512x1 : Shape := ⟨2, ![512, 1]⟩
abbrev S1x32x1024 : Shape := ⟨3, ![1, 32, 1024]⟩
abbrev S32x1024 : Shape := ⟨2, ![32, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S512x1024 : Shape := ⟨2, ![512, 1024]⟩
abbrev S1024 : Shape := ⟨1, ![1024]⟩
abbrev S1x1x1024 : Shape := ⟨3, ![1, 1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32x32x1024, .f32⟩
  | .hbm, ⟨1, _⟩ => ⟨S512x32, .f32⟩
  | .hbm, ⟨2, _⟩ => ⟨S32x32x1024, .f32⟩
  | .hbm, ⟨3, _⟩ => ⟨S32x32x1024, .f32⟩
  | .hbm, ⟨4, _⟩ => ⟨S32x32x1024, .f32⟩
  | .hbm, ⟨5, _⟩ => ⟨S4x8x1024, .i32⟩
  | .hbm, ⟨6, _⟩ => ⟨S32x1024, .i32⟩
  | .local _ .vmem, ⟨0, _⟩ => ⟨S8x32x1024, .f32⟩
  | .local _ .vmem, ⟨1, _⟩ => ⟨S8x32x1024, .f32⟩
  | .local _ .vmem, ⟨2, _⟩ => ⟨S512x32, .f32⟩
  | .local _ .vmem, ⟨3, _⟩ => ⟨S8x32x1024, .f32⟩
  | .local _ .vmem, ⟨4, _⟩ => ⟨S8x32x1024, .f32⟩
  | .local _ .vmem, ⟨5, _⟩ => ⟨S8x32x1024, .f32⟩
  | .local _ .vmem, ⟨6, _⟩ => ⟨S8x32x1024, .f32⟩
  | .local _ .vmem, ⟨7, _⟩ => ⟨S8x32x1024, .f32⟩
  | .local _ .vmem, ⟨8, _⟩ => ⟨S8x32x1024, .f32⟩
  | .local _ .vmem, ⟨9, _⟩ => ⟨S1x8x1024, .i32⟩
  | .local _ .vmem, ⟨10, _⟩ => ⟨S1x8x1024, .i32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x32x1024 : Shape := ⟨3, ![32, 32, 1024]⟩
abbrev S512x32 : Shape := ⟨2, ![512, 32]⟩
abbrev S32x1024x32 : Shape := ⟨3, ![32, 1024, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S512 : Shape := ⟨1, ![512]⟩
abbrev S1x512 : Shape := ⟨2, ![1, 512]⟩
abbrev S32768x512 : Shape := ⟨2, ![32768, 512]⟩
abbrev S32x512 : Shape := ⟨2, ![32, 512]⟩
abbrev S1 : Shape := ⟨1, ![1]⟩
abbrev S1x1 : Shape := ⟨2, ![1, 1]⟩
abbrev S32x1024 : Shape := ⟨2, ![32, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S512x32, .f32⟩
  | .hbm, ⟨2, _⟩ => ⟨S32x1024x32, .f32⟩
  | .hbm, ⟨3, _⟩ => ⟨S32768x32, .f32⟩
  | .hbm, ⟨4, _⟩ => ⟨S32768x32, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S512x32, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32x512, .f32⟩
  | .hbm, ⟨16, _⟩ => ⟨S32768x512, .f32⟩
  | .hbm, ⟨17, _⟩ => ⟨S_, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .i32⟩
  | .hbm, ⟨27, _⟩ => ⟨S_, .f32⟩
  | .hbm, ⟨28, _⟩ => ⟨S_, .i32⟩
  | .hbm, ⟨29, _⟩ => ⟨S32768, .f32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i32⟩
  | .hbm, ⟨37, _⟩ => ⟨S32768, .i32⟩
  | .hbm, ⟨38, _⟩ => ⟨S32768x1, .i32⟩
  | .hbm, ⟨39, _⟩ => ⟨S1, .i32⟩
  | .hbm, ⟨40, _⟩ => ⟨S_, .i32⟩
  | .hbm, ⟨41, _⟩ => ⟨S32768x1, .i32⟩
  | .hbm, ⟨42, _⟩ => ⟨S32768x1, .i1⟩
  | .hbm, ⟨43, _⟩ => ⟨S1x1, .i32⟩
  | .hbm, ⟨44, _⟩ => ⟨S32768x1, .i32⟩
  | .hbm, ⟨45, _⟩ => ⟨S32768x1, .i1⟩
  | .hbm, ⟨46, _⟩ => ⟨S32768x1, .i1⟩
  | .hbm, ⟨47, _⟩ => ⟨S_, .i1⟩
  | .hbm, ⟨48, _⟩ => ⟨S32768, .i1⟩
  | .hbm, ⟨49, _⟩ => ⟨S32768x32, .f32⟩
  | .hbm, ⟨50, _⟩ => ⟨S32768x32, .i1⟩
  | .hbm, ⟨51, _⟩ => ⟨S_, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S32768x32, .f32⟩
  | .hbm, ⟨56, _⟩ => ⟨S32x1024x32, .f32⟩
  | .hbm, ⟨57, _⟩ => ⟨S32x32x1024, .f32⟩
  | .hbm, ⟨58, _⟩ => ⟨S32x1024x32, .f32⟩
  | .hbm, ⟨59, _⟩ => ⟨S32x32x1024, .f32⟩
  | .hbm, ⟨60, _⟩ => ⟨S32x1024, .i32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v18 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Frame.lean ====
module

public import proofs.«01_k».proof.Defs
public import proofs.«01_k».proof.Proof.Gen.ReferenceIdeal
public import Idealize.ShloMosaic.Lib.Claim

/-!
# The reference leaves its arguments as they were

Each run of the reference ends, changes no argument, and leaves every semaphore counter at zero, since it has none.
-/

@[expose] public section

set_option maxRecDepth 16384

namespace Cert.ReferenceIdeal

open Idealize.ShloMosaic

/-- Every run of the reference ends with its arguments unchanged and all counters at zero. -/
theorem frame : Cert.quiescent_ReferenceIdeal := by
  intro m g _
  hlo_run
  exact fun _ => ⟨trivial, trivial⟩
  exact Idealize.ShloMosaic.sem_eq_zero_of_no_sems (sig := Cert.ReferenceIdeal.sig) (by decide) _

end Cert.ReferenceIdeal
-- ==== Proof.Nearest.lean ====
module

public import Idealize.ShloMosaic.Lib.Claim
public import Idealize.ShloMosaic.Lib.Pipeline.ValueKit

/-!
# The nearest row of a table

The mathematics the kernel and the reference share, over the extended reals and without a program: the distance from
a column `X` to the rows of a table `W`, the first row at which a list of distances is least, and the two ways of
finding that row — a minimum, then the least number among those that reach it; or one pass that carries a value with
its number.
-/

@[expose] public section

set_option maxRecDepth 16384

namespace Cert.Nearest

open Idealize.ShloMosaic

noncomputable section

/-- The distance from the column `X` to row `k` of `W`, with the product's factor `-2` multiplied into the row. -/
def dist (X : Fin 32 → EReal) (W : Fin 512 → Fin 32 → EReal) (k : Fin 512) : EReal :=
  Ideal.sqrt (max 0 ((∑ c, X c * X c) + (∑ c, W k c * W k c) + ∑ c, W k c * (-2) * X c))

/-- The distance from the column `X` to row `k` of `W`, the product taken first and doubled after. -/
def dist' (X : Fin 32 → EReal) (W : Fin 512 → Fin 32 → EReal) (k : Fin 512) : EReal :=
  Ideal.sqrt (max 0 ((∑ c, X c * X c) + (∑ c, W k c * W k c) - 2 * ∑ c, X c * W k c))

/-- `-2` times a sum is the sum of the terms with `-2` multiplied in, where every entry is a real number. -/
theorem neg_two_sum {n : ℕ} (u v : Fin n → ℝ) :
    (∑ c, (u c : EReal) * (-2) * (v c : EReal)) = -(2 * ∑ c, (v c : EReal) * (u c : EReal)) := by
  have h2 : (2 : EReal) = ((2 : ℝ) : EReal) := rfl
  have e1 : ∀ f : Fin n → ℝ, (∑ c, ((f c : ℝ) : EReal)) = ((∑ c, f c : ℝ) : EReal) := fun f =>
    (map_sum (⟨⟨Real.toEReal, EReal.coe_zero⟩, EReal.coe_add⟩ : ℝ →+ EReal) f Finset.univ).symm
  simp only [h2, ← EReal.coe_neg, ← EReal.coe_mul]
  rw [e1, e1, ← EReal.coe_mul, ← EReal.coe_neg, Finset.mul_sum, ← Finset.sum_neg_distrib]
  congr 1
  exact Finset.sum_congr rfl fun c _ => by ring

/-- The two distances agree where the column and the table hold real numbers. -/
theorem dist_eq (X : Fin 32 → EReal) (W : Fin 512 → Fin 32 → EReal) (x : Fin 32 → ℝ) (w : Fin 512 → Fin 32 → ℝ)
    (hX : ∀ c, X c = x c) (hW : ∀ k c, W k c = w k c) : dist' X W = dist X W := by
  funext k
  unfold dist dist'
  simp only [hX, hW]
  rw [neg_two_sum, sub_eq_add_neg]

/-- Row `j` is the first at which `D` is least. -/
def IsFirst (D : Fin 512 → EReal) (j : Fin 512) : Prop :=
  (∀ k, D j ≤ D k) ∧ ∀ k, k < j → D j < D k

/-- Some row is the first at the least value. -/
theorem exists_first (D : Fin 512 → EReal) : ∃ j, IsFirst D j := by
  classical
  obtain ⟨i, hi⟩ := Finite.exists_min D
  have hne : (Finset.univ.filter fun k => D k = D i).Nonempty := ⟨i, by simp⟩
  refine ⟨(Finset.univ.filter fun k => D k = D i).min' hne, ?_, ?_⟩
  · intro k
    rw [(Finset.mem_filter.1 (Finset.min'_mem _ hne)).2]
    exact hi k
  · intro k hk
    rw [(Finset.mem_filter.1 (Finset.min'_mem _ hne)).2]
    refine lt_of_le_of_ne (hi k) fun e => ?_
    exact absurd (Finset.min'_le _ k (by simp [e])) (not_le.2 hk)

/-- The first row at which `D` is least. -/
def first (D : Fin 512 → EReal) : Fin 512 := (exists_first D).choose

/-- What `first` is. -/
theorem first_spec (D : Fin 512 → EReal) : IsFirst D (first D) := (exists_first D).choose_spec

/-- A fold by `min` is the term that lies below the start and every other term. -/
theorem fold_min_eq (b : EReal) (f : Fin 512 → EReal) (j : Fin 512) (hb : f j ≤ b) (h : ∀ k, f j ≤ f k) :
    (Finset.univ : Finset (Fin 512)).fold min b f = f j :=
  le_antisymm ((Finset.fold_min_le _).2 (.inr ⟨j, Finset.mem_univ _, le_rfl⟩))
    ((Finset.le_fold_min _).2 ⟨hb, fun k _ => h k⟩)

/-- The least of all values, from `⊤`, is the value at `first`. -/
theorem fold_min_first (D : Fin 512 → EReal) : (Finset.univ : Finset (Fin 512)).fold min ⊤ D = D (first D) :=
  fold_min_eq ⊤ D (first D) le_top (first_spec D).1

/-- The least number among the rows that reach the minimum, every other row standing for 512, is the first row's. -/
theorem fold_min_index (D : Fin 512 → EReal) :
    (Finset.univ : Finset (Fin 512)).fold min ⊤ (fun k => if D k = D (first D) then ((k.val : ℝ) : EReal) else ((512 : ℝ) : EReal))
      = (((first D).val : ℝ) : EReal) := by
  have hj := first_spec D
  refine (fold_min_eq ⊤ _ (first D) le_top fun k => ?_).trans (if_pos rfl)
  rw [if_pos rfl]
  split
  · rename_i e
    refine EReal.coe_le_coe_iff.2 (Nat.cast_le.2 (Fin.le_def.1 (not_lt.1 fun hk => ?_)))
    exact absurd e (hj.2 k hk).ne'
  · refine EReal.coe_le_coe_iff.2 ?_
    exact_mod_cast (first D).isLt.le

/-- A small natural number converts to its word. -/
theorem fptosi_nat (n : ℕ) (hn : n < 512) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, ← BitVec.ofInt_natCast]
  congr 1
  norm_num
  omega

/-- The signed reading of a small natural number's word. -/
theorem toInt_small (n : ℕ) (hn : n < 512) : (BitVec.ofNat 32 n).toInt = n := by
  rw [BitVec.toInt_eq_toNat_of_lt] <;> rw [BitVec.toNat_ofNat] <;> omega

/-- A sum against the mark of one row picks that row's term. -/
theorem sum_mark (f : Fin 512 → EReal) (j : Fin 512) :
    ∑ k, f k * (if ((k.val : ℝ) : EReal) = ((j.val : ℝ) : EReal) then (1 : EReal) else 0) = f j := by
  have e : ∀ k : Fin 512, (((k.val : ℝ) : EReal) = ((j.val : ℝ) : EReal)) ↔ k = j := fun k => by
    rw [EReal.coe_eq_coe_iff, Nat.cast_inj, Fin.ext_iff]
  simp only [e, mul_ite, mul_one, mul_zero, Finset.sum_ite_eq', Finset.mem_univ, if_true]

/-- One step of the pass that carries a value with its number: the smaller value stays, and of two equal values the
    one with the smaller number. -/
def step (a b : EReal × BitVec 32) : EReal × BitVec 32 :=
  (if a.1 < b.1 then a.1 else b.1, if a.1 < b.1 ∨ (a.1 = b.1 ∧ a.2.toInt < b.2.toInt) then a.2 else b.2)

/-- `a` comes before `b`: a smaller value, or the same value and no larger number. -/
def Before (a b : EReal × BitVec 32) : Prop := a.1 < b.1 ∨ (a.1 = b.1 ∧ a.2.toInt ≤ b.2.toInt)

/-- A pair comes before itself. -/
theorem Before.refl (a : EReal × BitVec 32) : Before a a := .inr ⟨rfl, le_rfl⟩

/-- `Before` is transitive. -/
theorem Before.trans {a b c : EReal × BitVec 32} (h : Before a b) (h' : Before b c) : Before a c := by
  unfold Before at *
  rcases h with h | ⟨h, i⟩ <;> rcases h' with h' | ⟨h', i'⟩
  · exact .inl (h.trans h')
  · exact .inl (h' ▸ h)
  · exact .inl (h ▸ h')
  · exact .inr ⟨h.trans h', i.trans i'⟩

/-- A step keeps one of the two pairs, and the one it keeps comes before both. -/
theorem step_spec (a b : EReal × BitVec 32) :
    (step a b = a ∨ step a b = b) ∧ Before (step a b) a ∧ Before (step a b) b := by
  obtain ⟨a1, a2⟩ := a
  obtain ⟨b1, b2⟩ := b
  unfold step Before
  dsimp only
  by_cases h : a1 < b1
  · simp [h]
  · rcases lt_or_eq_of_le (not_lt.1 h) with h' | h'
    · have : ¬ (a1 = b1) := h'.ne'
      simp [h, h', this]
    · subst h'
      by_cases i : a2.toInt < b2.toInt
      · simp [i, i.le]
      · simp [i, not_lt.1 i]

/-- The pass over a list keeps the starting pair or one of the list, and what it keeps comes before them all. -/
theorem foldl_step : ∀ (L : List (EReal × BitVec 32)) (s : EReal × BitVec 32),
    (L.foldl step s = s ∨ L.foldl step s ∈ L) ∧ Before (L.foldl step s) s ∧ ∀ p ∈ L, Before (L.foldl step s) p
  | [], s => ⟨.inl rfl, .refl s, fun _ h => nomatch h⟩
  | a :: L, s => by
    obtain ⟨hm, hs, hL⟩ := foldl_step L (step s a)
    obtain ⟨hk, hks, hka⟩ := step_spec s a
    rw [List.foldl_cons]
    refine ⟨?_, hs.trans hks, fun p hp => ?_⟩
    · rcases hm with hm | hm
      · rcases hk with hk | hk
        · exact .inl (hm.trans hk)
        · exact .inr (by rw [hm, hk]; exact List.mem_cons_self)
      · exact .inr (List.mem_cons_of_mem _ hm)
    · rcases List.mem_cons.1 hp with rfl | hp
      · exact hs.trans hka
      · exact hL p hp

/-- The pass over the rows' distances with their numbers, in whatever order they come, starting at the top value with
    number 0, ends at the first row at which the distance is least. -/
theorem foldl_first (D : Fin 512 → EReal) (L : List (EReal × BitVec 32))
    (hL : ∀ p, p ∈ L ↔ ∃ k : Fin 512, p = (D k, BitVec.ofNat 32 k.val)) :
    L.foldl step (⊤, 0#32) = (D (first D), BitVec.ofNat 32 (first D).val) := by
  obtain ⟨hm, -, hall⟩ := foldl_step L (⊤, 0#32)
  have hmem : ∃ k : Fin 512, L.foldl step (⊤, 0#32) = (D k, BitVec.ofNat 32 k.val) := by
    rcases hm with hm | hm
    · have h0 := hall _ ((hL _).2 ⟨0, rfl⟩)
      rw [hm] at h0
      refine ⟨0, hm.trans ?_⟩
      rcases h0 with h0 | ⟨h0, -⟩
      · exact absurd h0 not_top_lt
      · exact Prod.ext h0 rfl
    · exact (hL _).1 hm
  obtain ⟨k, hk⟩ := hmem
  rw [hk]
  have hk' : ∀ i : Fin 512, D k < D i ∨ (D k = D i ∧ k ≤ i) := fun i => by
    have h := hall _ ((hL _).2 ⟨i, rfl⟩)
    rw [hk] at h
    rcases h with h | ⟨h, h'⟩
    · exact .inl h
    · rw [toInt_small _ k.isLt, toInt_small _ i.isLt] at h'
      exact .inr ⟨h, Fin.le_def.2 (by exact_mod_cast h')⟩
  have hj := first_spec D
  have e : k = first D := by
    rcases lt_trichotomy k (first D) with h | h | h
    · have h1 := hj.2 k h
      rcases hk' (first D) with h2 | ⟨h2, -⟩
      · exact absurd h1 (not_lt.2 h2.le)
      · exact absurd h2 h1.ne'
    · exact h
    · rcases hk' (first D) with h2 | ⟨-, h2⟩
      · exact absurd h2 (not_lt.2 (hj.1 k))
      · exact absurd h (not_lt.2 h2)
  rw [e]

end

end Cert.Nearest
-- ==== Proof.Block.lean ====
module

public import proofs.«01_k».proof.Proof.Nearest
public import proofs.«01_k».proof.Proof.Gen.KernelIdeal
public import proofs.«01_k».proof.Proof.Gen.KernelIdeal.Frame

/-!
# What the kernel computes from one row

The kernel treats the eight rows of its block alike. This module states that computation once, for a table `w` and one
row `x` of 32 channels by 1024 positions, and reads it at an index: the distance of position `l` to row `k` of the
table, the first nearest row, its entries, and the straight-through sum.
-/

@[expose] public section

set_option maxRecDepth 16384

namespace Cert.KernelIdeal.Block

open Idealize.ShloMosaic Cert.KernelIdeal Cert.Nearest

noncomputable section

/-- The numbers 0 to 511 down a column. -/
def numbers : IVec S512x1 32 := iota .tc S512x1 32 [0] Facts₀.iota_S512x1_d0_w32

/-- The nearest rows' numbers of one row, as stored. -/
def rowIdx (w : Vec Ideal S512x32 .f32) (x : Vec Ideal S1x32x1024 .f32) : IVec S1x1x1024 32 :=
  Gen.k0_pay9 (Gen.k0_pay5 w x) (Gen.k0_pay6 w x) numbers

/-- The nearest rows' entries of one row, as stored. -/
def rowZ (w : Vec Ideal S512x32 .f32) (x : Vec Ideal S1x32x1024 .f32) : FVec Ideal S1x32x1024 .f32 :=
  Gen.k0_pay11 w (Gen.k0_pay5 w x) (Gen.k0_pay6 w x) numbers

/-- The straight-through sum of one row, as stored. -/
def rowZq (w : Vec Ideal S512x32 .f32) (x : Vec Ideal S1x32x1024 .f32) : FVec Ideal S1x32x1024 .f32 :=
  Gen.k0_pay12 w (Gen.k0_pay4 x) (Gen.k0_pay5 w x) (Gen.k0_pay6 w x) numbers

/-- The copy of one row, as stored. -/
def rowX (x : Vec Ideal S1x32x1024 .f32) : FVec Ideal S1x32x1024 .f32 := Gen.k0_pay13 (Gen.k0_pay4 x)

/-- Position `l` of a row, down its channels. -/
abbrev col (x : Vec Ideal S1x32x1024 .f32) (l : Fin 1024) : Fin 32 → EReal := fun c => x (ix3 (0 : Fin 1) c l)

/-- The table by row and channel. -/
abbrev tab (w : Vec Ideal S512x32 .f32) : Fin 512 → Fin 32 → EReal := fun k c => w (ix2 k c)

/-- The order in which the kernel adds 32 terms does not matter. -/
theorem tree_sum (f : Fin 32 → EReal) :
    ∑ c, f c = f 0 + f 8 + f 16 + f 24 + (f 4 + f 12 + f 20 + f 28) + (f 2 + f 10 + f 18 + f 26 + (f 6 + f 14 + f 22 + f 30))
      + (f 1 + f 9 + f 17 + f 25 + (f 5 + f 13 + f 21 + f 29) + (f 3 + f 11 + f 19 + f 27 + (f 7 + f 15 + f 23 + f 31))) := by
  simp only [Fin.sum_univ_ofNat]
  ac_rfl

/-- The kernel's tree of additions along a row of the table is the sum of that row's squares. -/
theorem norms (w : Vec Ideal S512x32 .f32) (k : Fin 512) :
    Gen.k0_pay3 w (ix2 k (0 : Fin 1)) = ∑ c, tab w k c * tab w k c := by
  unfold Gen.k0_pay3
  pointwise
  exact (tree_sum fun c => tab w k c * tab w k c).symm

/-- The word of the literal -2. -/
theorem lit_neg_two : Ideal.ofBits .f32 0xC0000000#32 = -2 := by
  simp [Ideal.ofBits, Ideal.ieee]
  rw [← EReal.coe_mul]
  norm_num
  rfl

/-- The word of the literal infinity. -/
theorem lit_top : Ideal.ofBits .f32 0x7F800000#32 = ⊤ := by
  simp [Ideal.ofBits, Ideal.ieee]
/-- The word of the literal 512. -/
theorem lit_512 : Ideal.ofBits .f32 0x44000000#32 = ((512 : ℝ) : EReal) := by
  simp [Ideal.ofBits, Ideal.ieee]
  rw [← EReal.coe_mul]
  norm_num

/-- The distance of position `l` to row `k` of the table. -/
theorem rowDist_at (w : Vec Ideal S512x32 .f32) (x : Vec Ideal S1x32x1024 .f32) (k : Fin 512) (l : Fin 1024) :
    Gen.k0_pay5 w x (ix2 k l) = dist (col x l) (tab w) k := by
  unfold Gen.k0_pay5 Gen.k0_pay4 Gen.k0_pay2
  pointwise
  rw [norms, lit_neg_two]
  exact congrArg (fun s => Ideal.sqrt (max 0 (s + _ + _))) (tree_sum fun c => col x l c * col x l c).symm

/-- The least distance at a position. -/
theorem rowMin_at (w : Vec Ideal S512x32 .f32) (x : Vec Ideal S1x32x1024 .f32) (l : Fin 1024) :
    Gen.k0_pay6 w x (ix2 (0 : Fin 1) l) = dist (col x l) (tab w) (first (dist (col x l) (tab w))) := by
  unfold Gen.k0_pay6
  pointwise
  simp only [rowDist_at, lit_top]
  exact fold_min_first _

/-- The kernel's column of row numbers holds `k` at `k`. -/
theorem numbers_at (k : Fin 512) : numbers (ix2 k (0 : Fin 1)) = BitVec.ofNat 32 k.val := by
  unfold numbers
  pointwise

/-- A row's number as a float is that number. -/
theorem number_float (k : Fin 512) :
    (FloatOps.sitofp .f32 (BitVec.ofNat 32 k.val) : Ideal .f32) = ((k.val : ℝ) : EReal) := by
  show (((BitVec.ofNat 32 k.val).toInt : ℝ) : EReal) = _
  rw [toInt_small _ k.isLt]; norm_cast

/-- The least number among the nearest rows, as a float, is the first nearest row's. -/
theorem rowFirst_at (w : Vec Ideal S512x32 .f32) (x : Vec Ideal S1x32x1024 .f32) (l : Fin 1024) :
    Gen.k0_pay8 (Gen.k0_pay5 w x) (Gen.k0_pay6 w x) numbers (ix2 (0 : Fin 1) l)
      = (((first (dist (col x l) (tab w))).val : ℝ) : EReal) := by
  unfold Gen.k0_pay8 Gen.k0_pay7
  pointwise
  simp only [rowDist_at, rowMin_at, numbers_at, number_float, lit_top, lit_512]
  exact fold_min_index _

/-- The number stored at a position is that of the first nearest row. -/
theorem rowIdx_at (w : Vec Ideal S512x32 .f32) (x : Vec Ideal S1x32x1024 .f32) (l : Fin 1024) :
    rowIdx w x (ix3 (0 : Fin 1) (0 : Fin 1) l) = BitVec.ofNat 32 (first (dist (col x l) (tab w))).val := by
  unfold rowIdx Gen.k0_pay9
  pointwise
  rw [rowFirst_at]
  exact fptosi_nat _ (first _).isLt

/-- A mark read as a float: 1 where it is set, 0 elsewhere. -/
theorem mark_float (p : Prop) [Decidable p] :
    (FloatOps.sitofp .f32 (BitVec.setWidth 32 (BitVec.ofBool (decide p))) : Ideal .f32) = if p then 1 else 0 := by
  show (((BitVec.setWidth 32 (BitVec.ofBool (decide p))).toInt : ℝ) : EReal) = _
  by_cases h : p <;> simp [h]

/-- The product with the 0/1 matrix is the first nearest row's entry. -/
theorem z_at (w : Vec Ideal S512x32 .f32) (x : Vec Ideal S1x32x1024 .f32) (c : Fin 32) (l : Fin 1024) :
    Gen.k0_pay10 w (Gen.k0_pay5 w x) (Gen.k0_pay6 w x) numbers (ix2 c l) = tab w (first (dist (col x l) (tab w))) c := by
  unfold Gen.k0_pay10 Gen.k0_pay7
  pointwise
  simp only [rowFirst_at, numbers_at, number_float, mark_float]
  exact sum_mark (fun k => tab w k c) _

/-- The second result of a batch is the first nearest row's entry. -/
theorem rowZ_at (w : Vec Ideal S512x32 .f32) (x : Vec Ideal S1x32x1024 .f32) (c : Fin 32) (l : Fin 1024) :
    rowZ w x (ix3 (0 : Fin 1) c l) = tab w (first (dist (col x l) (tab w))) c := by
  unfold rowZ Gen.k0_pay11
  pointwise
  exact z_at w x c l

/-- The first result of a batch is the straight-through sum. -/
theorem rowZq_at (w : Vec Ideal S512x32 .f32) (x : Vec Ideal S1x32x1024 .f32) (c : Fin 32) (l : Fin 1024) :
    rowZq w x (ix3 (0 : Fin 1) c l) = col x l c + (tab w (first (dist (col x l) (tab w))) c - col x l c) := by
  unfold rowZq Gen.k0_pay12
  pointwise
  rw [z_at]
  unfold Gen.k0_pay4
  pointwise

/-- The third result of a batch is the batch itself. -/
theorem rowX_at (x : Vec Ideal S1x32x1024 .f32) (c : Fin 32) (l : Fin 1024) :
    rowX x (ix3 (0 : Fin 1) c l) = col x l c := by
  unfold rowX Gen.k0_pay13 Gen.k0_pay4
  pointwise

end

end Cert.KernelIdeal.Block
-- ==== Proof.Buffer.lean ====
module

public import proofs.«01_k».proof.Proof.Block

/-!
# What one grid point leaves in its output buffers

The four output buffers after a grid point, at every index, from the block of `x` and the table the point reads. The
eight stores of a buffer are the eight rows of one formula.
-/

@[expose] public section

set_option maxRecDepth 16384

namespace Cert.KernelIdeal.Buffer

open Idealize.ShloMosaic Cert.KernelIdeal Cert.KernelIdeal.Block Cert.Nearest

noncomputable section

/-- Position `l` of row `r` of a block, down its channels. -/
abbrev bcol (x0 : Vec Ideal S8x32x1024 .f32) (r : Fin 8) (l : Fin 1024) : Fin 32 → EReal := fun c => x0 (ix3 r c l)

/-- The first row of the table nearest to position `l` of row `r`. -/
abbrev near (x0 : Vec Ideal S8x32x1024 .f32) (x1 : Vec Ideal S512x32 .f32) (r : Fin 8) (l : Fin 1024) : Fin 512 :=
  first (dist (bcol x0 r l) (tab x1))

/-- The nearest rows' entries, over the whole block. -/
def bufZ (x0 : Vec Ideal S8x32x1024 .f32) (x1 : Vec Ideal S512x32 .f32) : Vec Ideal S8x32x1024 .f32 :=
  fun y => x1 (ix2 (near x0 x1 (y 0) (y 2)) (y 1))

/-- The straight-through sum, over the whole block. -/
def bufZq (x0 : Vec Ideal S8x32x1024 .f32) (x1 : Vec Ideal S512x32 .f32) : Vec Ideal S8x32x1024 .f32 :=
  fun y => x0 y + (bufZ x0 x1 y - x0 y)

/-- The nearest rows' numbers, over the whole block. -/
def bufIdx (x0 : Vec Ideal S8x32x1024 .f32) (x1 : Vec Ideal S512x32 .f32) : Vec Ideal S1x8x1024 .i32 :=
  fun y => BitVec.ofNat 32 (near x0 x1 (y 1) (y 2)).val

/-- An index of three axes is its three coordinates. -/
theorem exists_ix3 {n0 n1 n2 : ℕ} (i : (⟨3, ![n0, n1, n2]⟩ : Shape).Idx) :
    ∃ (a : Fin n0) (b : Fin n1) (c : Fin n2), i = ix3 a b c :=
  ⟨i 0, i 1, i 2, eq_ix3 i⟩

/-- Row `r` of a block's buffer. -/
abbrev rowRect (r : ℕ) (h : ∀ a, (![r, 0, 0] : Fin 3 → ℕ) a + S1x32x1024.size a ≤ S8x32x1024.size a) : Rect S8x32x1024 :=
  Rect.unit (s := S8x32x1024) ![r, 0, 0] S1x32x1024.size h

/-- Where the entries of batch `r` lie in a block. -/
theorem rowRect_emb (r : Fin 8) (h) (a : Fin 1) (c : Fin 32) (l : Fin 1024) :
    (rowRect r.val h).emb (ix3 a c l) = ix3 r c l := by
  funext b
  apply Fin.ext
  match b with
  | ⟨0, _⟩ => show r.val + 1 * a.val = r.val; omega
  | ⟨1, _⟩ => show 0 + 1 * c.val = c.val; omega
  | ⟨2, _⟩ => show 0 + 1 * l.val = l.val; omega

/-- A column read from batch `r` of the block is that column of the block. -/
theorem ld_row (x0 : Vec Ideal S8x32x1024 .f32) (r : Fin 8) (h) (l : Fin 1024) :
    col (View.ld x0 (rowRect r.val h)) l = bcol x0 r l :=
  funext fun c => congrArg x0 (rowRect_emb r h 0 c l)

/-- The table is read whole. -/
theorem ld_table (x1 : Vec Ideal S512x32 .f32) : View.ld x1 Gen.r0_0 = x1 :=
  View.ld_unit_zero (by funext a; fin_cases a <;> rfl) _ x1

/-- What is stored of the chosen rows for batch `r` is that part of `bufZ`. -/
theorem piece_z (x0 : Vec Ideal S8x32x1024 .f32) (x1 : Vec Ideal S512x32 .f32) (r : Fin 8) (h) (i : S1x32x1024.Idx) :
    rowZ (View.ld x1 Gen.r0_0) (View.ld x0 (rowRect r.val h)) i = bufZ x0 x1 ((rowRect r.val h).emb i) := by
  obtain ⟨a, c, l, rfl⟩ := exists_ix3 i
  obtain rfl : a = 0 := Subsingleton.elim _ _
  rw [rowZ_at, ld_row, ld_table, rowRect_emb]
  rfl

/-- What is stored of the straight-through sum for batch `r` is that part of `bufZq`. -/
theorem piece_zq (x0 : Vec Ideal S8x32x1024 .f32) (x1 : Vec Ideal S512x32 .f32) (r : Fin 8) (h) (i : S1x32x1024.Idx) :
    rowZq (View.ld x1 Gen.r0_0) (View.ld x0 (rowRect r.val h)) i = bufZq x0 x1 ((rowRect r.val h).emb i) := by
  obtain ⟨a, c, l, rfl⟩ := exists_ix3 i
  obtain rfl : a = 0 := Subsingleton.elim _ _
  rw [rowZq_at, ld_row, ld_table, rowRect_emb]
  rfl

/-- What is stored of the copy for batch `r` is that part of the block. -/
theorem piece_x (x0 : Vec Ideal S8x32x1024 .f32) (r : Fin 8) (h) (i : S1x32x1024.Idx) :
    rowX (View.ld x0 (rowRect r.val h)) i = x0 ((rowRect r.val h).emb i) := by
  obtain ⟨a, c, l, rfl⟩ := exists_ix3 i
  obtain rfl : a = 0 := Subsingleton.elim _ _
  rw [rowX_at, ld_row, rowRect_emb]

/-- Row `r` of a block's buffer of numbers. -/
abbrev idxRect (r : ℕ) (h : ∀ a, (![0, r, 0] : Fin 3 → ℕ) a + S1x1x1024.size a ≤ S1x8x1024.size a) : Rect S1x8x1024 :=
  Rect.unit (s := S1x8x1024) ![0, r, 0] S1x1x1024.size h

/-- What is stored of the numbers for batch `r` is that part of `bufIdx`. -/
theorem piece_idx (x0 : Vec Ideal S8x32x1024 .f32) (x1 : Vec Ideal S512x32 .f32) (r : Fin 8) (h) (h') (i : S1x1x1024.Idx) :
    rowIdx (View.ld x1 Gen.r0_0) (View.ld x0 (rowRect r.val h)) i = bufIdx x0 x1 ((idxRect r.val h').emb i) := by
  obtain ⟨a, b, l, rfl⟩ := exists_ix3 i
  obtain rfl : a = 0 := Subsingleton.elim _ _
  obtain rfl : b = 0 := Subsingleton.elim _ _
  have e : (idxRect r.val h').emb (ix3 (0 : Fin 1) (0 : Fin 1) l) = ix3 (0 : Fin 1) r l := by
    funext d
    apply Fin.ext
    match d with
    | ⟨0, _⟩ => rfl
    | ⟨1, _⟩ => show r.val + 1 * 0 = r.val; omega
    | ⟨2, _⟩ => show 0 + 1 * l.val = l.val; omega
  rw [rowIdx_at, ld_row, ld_table, e]
  rfl

/-- The whole first output buffer. -/
theorem out_zq (x0 : Vec Ideal S8x32x1024 .f32) (x1 : Vec Ideal S512x32 .f32) : Gen.out0_2 x0 x1 = bufZq x0 x1 := by
  funext y
  refine View.canon_apply_of_pieces (bufZq x0 x1) _ ?_ y (Gen.cover0_2 _ _ _ _ _ _ _ _ y)
  simp only [List.forall_mem_cons]
  exact ⟨piece_zq x0 x1 7 _, piece_zq x0 x1 6 _, piece_zq x0 x1 5 _, piece_zq x0 x1 4 _, piece_zq x0 x1 3 _,
    piece_zq x0 x1 2 _, piece_zq x0 x1 1 _, piece_zq x0 x1 0 _, fun _ h => nomatch h⟩

/-- The whole second output buffer. -/
theorem out_z (x0 : Vec Ideal S8x32x1024 .f32) (x1 : Vec Ideal S512x32 .f32) : Gen.out0_3 x0 x1 = bufZ x0 x1 := by
  funext y
  refine View.canon_apply_of_pieces (bufZ x0 x1) _ ?_ y (Gen.cover0_3 _ _ _ _ _ _ _ _ y)
  simp only [List.forall_mem_cons]
  exact ⟨piece_z x0 x1 7 _, piece_z x0 x1 6 _, piece_z x0 x1 5 _, piece_z x0 x1 4 _, piece_z x0 x1 3 _,
    piece_z x0 x1 2 _, piece_z x0 x1 1 _, piece_z x0 x1 0 _, fun _ h => nomatch h⟩

/-- The whole third output buffer. -/
theorem out_x (x0 : Vec Ideal S8x32x1024 .f32) (x1 : Vec Ideal S512x32 .f32) : Gen.out0_4 x0 x1 = x0 := by
  funext y
  refine View.canon_apply_of_pieces x0 _ ?_ y (Gen.cover0_4 _ _ _ _ _ _ _ _ y)
  simp only [List.forall_mem_cons]
  exact ⟨piece_x x0 7 _, piece_x x0 6 _, piece_x x0 5 _, piece_x x0 4 _, piece_x x0 3 _,
    piece_x x0 2 _, piece_x x0 1 _, piece_x x0 0 _, fun _ h => nomatch h⟩

/-- The whole fourth output buffer. -/
theorem out_idx (x0 : Vec Ideal S8x32x1024 .f32) (x1 : Vec Ideal S512x32 .f32) : Gen.out0_5 x0 x1 = bufIdx x0 x1 := by
  funext y
  refine View.canon_apply_of_pieces (bufIdx x0 x1) _ ?_ y (Gen.cover0_5 _ _ _ _ _ _ _ _ y)
  simp only [List.forall_mem_cons]
  exact ⟨piece_idx x0 x1 7 _ _, piece_idx x0 x1 6 _ _, piece_idx x0 x1 5 _ _, piece_idx x0 x1 4 _ _, piece_idx x0 x1 3 _ _,
    piece_idx x0 x1 2 _ _, piece_idx x0 x1 1 _ _, piece_idx x0 x1 0 _ _, fun _ h => nomatch h⟩

end

end Cert.KernelIdeal.Buffer
-- ==== Proof.Arrays.lean ====
module

public import proofs.«01_k».proof.Proof.Buffer

/-!
# What the kernel's result arrays hold

The four result arrays after the whole run, from the two argument arrays: each grid point's buffers, put in their
places.
-/

@[expose] public section

set_option maxRecDepth 16384

namespace Cert.KernelIdeal.Arrays

open Idealize.ShloMosaic Idealize.ShloMosaic.TcCoe Cert.KernelIdeal Cert.KernelIdeal.Gen Cert.KernelIdeal.Block
  Cert.KernelIdeal.Buffer Cert.Nearest

noncomputable section

/-- The first row of the table nearest to position `l` of row `b`. -/
abbrev nearest (X : FVec Ideal S32x32x1024 .f32) (W : FVec Ideal S512x32 .f32) (b : Fin 32) (l : Fin 1024) : Fin 512 :=
  first (dist (fun c => X (ix3 b c l)) (tab W))

/-- The nearest rows' entries. -/
def resZ (X : FVec Ideal S32x32x1024 .f32) (W : FVec Ideal S512x32 .f32) : FVec Ideal S32x32x1024 .f32 :=
  fun y => W (ix2 (nearest X W (y 0) (y 2)) (y 1))

/-- The straight-through sum. -/
def resZq (X : FVec Ideal S32x32x1024 .f32) (W : FVec Ideal S512x32 .f32) : FVec Ideal S32x32x1024 .f32 :=
  fun y => X y + (resZ X W y - X y)

/-- The nearest rows' numbers, by grid point, row within the point and position. -/
def resIdx4 (X : FVec Ideal S32x32x1024 .f32) (W : FVec Ideal S512x32 .f32) : IVec S4x8x1024 32 :=
  fun y => BitVec.ofNat 32 (nearest X W ⟨8 * (y 0).val + (y 1).val, by
    have h0 : (y 0).val < 4 := (y 0).isLt
    have h1 : (y 1).val < 8 := (y 1).isLt
    omega⟩ (y 2)).val

/-- The nearest rows' numbers. -/
def resIdx (X : FVec Ideal S32x32x1024 .f32) (W : FVec Ideal S512x32 .f32) : IVec S32x1024 32 :=
  fun y => BitVec.ofNat 32 (nearest X W (y 0) (y 1)).val

variable (m : (ℓ : Loc nD τ sig) → Buf (Elt Ideal) ℓ)

/-- Where each window's block lies at each grid point. -/
theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- Row `r` of point `t`'s block is row `8 t + r` of the array. -/
def row (t : Fin cfg0.N) (r : Fin 8) : Fin 32 :=
  ⟨8 * t.val + r.val, by have h : t.val < 4 := t.isLt; omega⟩

/-- Each grid point's second block is the whole table. -/
theorem table_block (c : Dev nD) (t : Fin cfg0.N) : iblk m c 1 t = m ((c : Thread nD τ).loc main_arg1) := by
  blk_ext! [iblk, V, idx t]

/-- Entry `(r, k, l)` of a grid point's first block is the entry of `x` at its batch `r`. -/
theorem x_block (c : Dev nD) (t : Fin cfg0.N) (r : Fin 8) (k : Fin 32) (l : Fin 1024) :
    (iblk m c 0 t : Vec Ideal S8x32x1024 .f32) (ix3 r k l) = m ((c : Thread nD τ).loc main_arg0) (ix3 (row t r) k l) := by
  unfold row
  blk_ext! [iblk, V, idx t]

/-- The nearest row that a block gives is the one that the whole arrays give. -/
theorem near_block (c : Dev nD) (t : Fin cfg0.N) (r : Fin 8) (l : Fin 1024) :
    near (iblk m c 0 t) (iblk m c 1 t) r l
      = nearest (m ((c : Thread nD τ).loc main_arg0)) (m ((c : Thread nD τ).loc main_arg1)) (row t r) l := by
  unfold near nearest
  rw [table_block, show bcol (iblk m c 0 t) r l = _ from funext fun k => x_block m c t r k l]

/-- What a grid point leaves of the chosen rows is its part of `resZ`. -/
theorem bufZ_block (c : Dev nD) (t : Fin cfg0.N) (r : Fin 8) (k : Fin 32) (l : Fin 1024) :
    bufZ (iblk m c 0 t) (iblk m c 1 t) (ix3 r k l)
      = resZ (m ((c : Thread nD τ).loc main_arg0)) (m ((c : Thread nD τ).loc main_arg1)) (ix3 (row t r) k l) := by
  show (iblk m c 1 t : Vec Ideal S512x32 .f32) (ix2 (near (iblk m c 0 t) (iblk m c 1 t) r l) k) = _
  rw [near_block, table_block]
  rfl

/-- What a grid point leaves of the straight-through sum is its part of `resZq`. -/
theorem bufZq_block (c : Dev nD) (t : Fin cfg0.N) (r : Fin 8) (k : Fin 32) (l : Fin 1024) :
    bufZq (iblk m c 0 t) (iblk m c 1 t) (ix3 r k l)
      = resZq (m ((c : Thread nD τ).loc main_arg0)) (m ((c : Thread nD τ).loc main_arg1)) (ix3 (row t r) k l) := by
  unfold bufZq resZq
  rw [bufZ_block, x_block]

/-- The second result's array. -/
theorem array_z (c : Dev nD) : (dats m 0 c).arrAt 3 (cfgs 0).N
    = resZ (m ((c : Thread nD τ).loc main_arg0)) (m ((c : Thread nD τ).loc main_arg1)) := by
  refine (dats m 0 c).arrAt_eq_of_covers 3 _ (by decide +kernel) fun t _ y => ?_
  obtain ⟨r, k, l, rfl⟩ : ∃ (r : Fin 8) (k : Fin 32) (l : Fin 1024), y = ix3 r k l := exists_ix3 y
  blk_simp
  rw [after0_3, out_z]
  refine (bufZ_block m c t r k l).trans (congrArg _ ?_)
  unfold row
  blk_ext [idx t]

/-- The first result's array. -/
theorem array_zq (c : Dev nD) : (dats m 0 c).arrAt 2 (cfgs 0).N
    = resZq (m ((c : Thread nD τ).loc main_arg0)) (m ((c : Thread nD τ).loc main_arg1)) := by
  refine (dats m 0 c).arrAt_eq_of_covers 2 _ (by decide +kernel) fun t _ y => ?_
  obtain ⟨r, k, l, rfl⟩ : ∃ (r : Fin 8) (k : Fin 32) (l : Fin 1024), y = ix3 r k l := exists_ix3 y
  blk_simp
  rw [after0_2, out_zq]
  refine (bufZq_block m c t r k l).trans (congrArg _ ?_)
  unfold row
  blk_ext [idx t]

/-- The third result's array. -/
theorem array_x (c : Dev nD) : (dats m 0 c).arrAt 4 (cfgs 0).N = m ((c : Thread nD τ).loc main_arg0) := by
  refine (dats m 0 c).arrAt_eq_of_covers 4 _ (by decide +kernel) fun t _ y => ?_
  obtain ⟨r, k, l, rfl⟩ : ∃ (r : Fin 8) (k : Fin 32) (l : Fin 1024), y = ix3 r k l := exists_ix3 y
  blk_simp
  rw [after0_4, out_x]
  refine (x_block m c t r k l).trans (congrArg _ ?_)
  unfold row
  blk_ext [idx t]

/-- The fourth result's array, before its last two axes' reshape. -/
theorem array_idx (c : Dev nD) : (dats m 0 c).arrAt 5 (cfgs 0).N
    = resIdx4 (m ((c : Thread nD τ).loc main_arg0)) (m ((c : Thread nD τ).loc main_arg1)) := by
  refine (dats m 0 c).arrAt_eq_of_covers 5 _ (by decide +kernel) fun t _ y => ?_
  obtain ⟨u, r, l, rfl⟩ : ∃ (u : Fin 1) (r : Fin 8) (l : Fin 1024), y = ix3 u r l := exists_ix3 y
  blk_simp
  rw [after0_5, out_idx]
  show BitVec.ofNat 32 (near (iblk m c 0 t) (iblk m c 1 t) r l).val = _
  rw [near_block]
  have ht : t.val < 4 := t.isLt
  refine Eq.trans ?_ (congrArg (resIdx4 _ _) (?_ : ix3 (⟨t.val, ht⟩ : Fin 4) r l = _))
  · rfl
  · blk_ext [idx t]

/-- The numbers by grid point, batch and position, reshaped, are the numbers by batch and position. -/
theorem reshape_idx (X : FVec Ideal S32x32x1024 .f32) (W : FVec Ideal S512x32 .f32) (h : S4x8x1024.ShapeCasts S32x1024) :
    shapeCast S32x1024 (resIdx4 X W) h = resIdx X W := by
  funext y
  idx_vars y
  pointwise [resIdx4, resIdx]
  simp only [Nat.div_add_mod]

/-- The fourth result. -/
theorem result_idx (c : Dev nD) :
    Pipeline.afterTail₀ cfgs (dats m) 0 (V0 m) [hostOps1] c main_v1
      = resIdx (m ((c : Thread nD τ).loc main_arg0)) (m ((c : Thread nD τ).loc main_arg1)) := by
  unfold Pipeline.afterTail₀ hostOps1
  simp only [List.flatten_cons, List.flatten_nil, List.append_nil]
  after_results
  have e : Pipeline.withArrays (cfgs 0).spec c (V0 m c) (fun w => (dats m 0 c).arrAt w (cfgs 0).N) (Proc.devRef .tc main_v0_3)
      = (dats m 0 c).arrAt 5 (cfgs 0).N := Pipeline.withArrays_arr spec0 (by decide) c (V0 m c) _ 5
  rw [e, array_idx]
  exact reshape_idx _ _ _

end

end Cert.KernelIdeal.Arrays
-- ==== Proof.RefTerms.lean ====
module

public import proofs.«01_k».proof.Proof.Nearest
public import proofs.«01_k».proof.Proof.Gen.ReferenceIdeal
public import Idealize.ShloMosaic.Lib.Routing.Ops

/-!
# The reference, stage by stage

The reference's results as terms over its two arguments. The numbers of the chosen rows are a stage of their own, which the
results take as an argument.
-/

@[expose] public section

set_option maxRecDepth 16384

namespace Cert.ReferenceIdeal.Value

open Idealize.ShloMosaic Cert.ReferenceIdeal Cert.Nearest

noncomputable section

/-- The positions of every batch as rows of channels. -/
def rows (X : FVec Ideal S32x32x1024 .f32) : FVec Ideal S32768x32 .f32 :=
  shapeCast S32768x32 (transpose S32x1024x32 [0, 2, 1] X Facts₀.transposes_S32x32x1024_S32x1024x32_0_2_1)
    Facts₀.shapeCasts_S32x1024x32_S32768x32

/-- The sum of the squares along each row. -/
def rowNorms (X : FVec Ideal S32x32x1024 .f32) : FVec Ideal S32768 .f32 :=
  Host.reduceAdd (mulf (rows X) (rows X)) (constant S_ .f32 0x00000000#32) Facts₀.reducesTo_S32768x32_S32768_d1 Facts₀.h_S_

/-- The sum of the squares along each row of the table. -/
def tableNorms (W : FVec Ideal S512x32 .f32) : FVec Ideal S512 .f32 :=
  Host.reduceAdd (mulf W W) (constant S_ .f32 0x00000000#32) Facts₀.reducesTo_S512x32_S512_d1 Facts₀.h_S_

/-- The products of every row with every row of the table. -/
def products (X : FVec Ideal S32x32x1024 .f32) (W : FVec Ideal S512x32 .f32) : FVec Ideal S32768x512 .f32 :=
  Host.dotGeneral dot_S32768x32_S32x512_S32768x512_1_0_0_1_n_n none (rows X)
    (transpose S32x512 [1, 0] W Facts₀.transposes_S512x32_S32x512_1_0 : FVec Ideal S32x512 .f32)

/-- The distance of every row to every row of the table. -/
def dists (X : FVec Ideal S32x32x1024 .f32) (W : FVec Ideal S512x32 .f32) : FVec Ideal S32768x512 .f32 :=
  Host.sqrt (maximumf (broadcastInDim S32768x512 ![] Facts₀.bcast_S_S32768x512 (id (constant S_ .f32 0x00000000#32)))
    (subf
      (addf
        (broadcastInDim S32768x512 ![0, 1] Facts₀.bcast_S32768x1_S32768x512_0_1
          (broadcastInDim S32768x1 ![0] Facts₀.bcast_S32768_S32768x1_0 (rowNorms X)))
        (broadcastInDim S32768x512 ![0, 1] Facts₀.bcast_S1x512_S32768x512_0_1
          (broadcastInDim S1x512 ![1] Facts₀.bcast_S512_S1x512_1 (tableNorms W))))
      (mulf (broadcastInDim S32768x512 ![] Facts₀.bcast_S_S32768x512 (constant S_ .f32 0x40000000#32)) (products X W))))

/-- The number of each row's nearest row of the table, by distances `D`. -/
def nums (D : FVec Ideal S32768x512 .f32) : IVec S32768 32 := fun j =>
  (Host.argReduce reducer_argmin_f32_i32 D (iotaInDim S32768x512 32 1) (constant S_ .f32 0x7F800000#32) (constantI S_ 32 0#32)
    Facts₀.reducesTo_S32768x512_S32768_d1 Facts₀.h_S_ j).2

/-- The numbers with a negative one counted from the end. -/
def wrapped (n : IVec S32768 32) : IVec S32768x1 32 :=
  broadcastInDim S32768x1 ![0] Facts₀.bcast_S32768_S32768x1_0
    (select (cmpi .slt n (broadcastInDim S32768 ![] Facts₀.bcast_S_S32768 (constantI S_ 32 0#32)))
      (addi n (broadcastInDim S32768 ![] Facts₀.bcast_S_S32768 (constantI S_ 32 512#32))) n)

/-- Which numbers lie within the table. -/
def within (i : IVec S32768x1 32) : IVec S32768 1 :=
  Host.reduce IntOp.andi
    (andi (cmpi .sge i (broadcastInDim S32768x1 ![] Facts₀.bcast_S_S32768x1 (constantI S_ 32 0#32)))
      (cmpi .sle i (broadcastInDim S32768x1 ![0, 1] Facts₀.bcast_S1x1_S32768x1_0_1
        (broadcastInDim S1x1 ![1] Facts₀.bcast_S1_S1x1_1 (constantI S1 32 511#32)))))
    (constantI S_ 1 1#1) Facts₀.reducesTo_S32768x1_S32768_d1 Facts₀.h_S_

/-- The table's rows by number. -/
def taken (W : FVec Ideal S512x32 .f32) (n : IVec S32768 32) : FVec Ideal S32768x32 .f32 :=
  select (broadcastInDim S32768x32 ![0] Facts₀.bcast_S32768_S32768x32_0 (within (wrapped n)))
    (Host.gather gather_S512x32_S32768x1_S32768x32_1_0_n_n_0_1_132 W (wrapped n))
    (broadcastInDim S32768x32 ![] Facts₀.bcast_S_S32768x32 (constant S_ .f32 0x7FC00000#32))

/-- Rows of channels put back by batch, channel and position. -/
def back (R : FVec Ideal S32768x32 .f32) : FVec Ideal S32x32x1024 .f32 :=
  transpose S32x32x1024 [0, 2, 1] (shapeCast S32x1024x32 R Facts₀.shapeCasts_S32768x32_S32x1024x32)
    Facts₀.transposes_S32x1024x32_S32x32x1024_0_2_1

/-- The first result, with the rows of the table chosen by the numbers `n`. -/
def zq (X : FVec Ideal S32x32x1024 .f32) (W : FVec Ideal S512x32 .f32) (n : IVec S32768 32) : FVec Ideal S32x32x1024 .f32 :=
  back (addf (rows X) (subf (taken W n) (rows X)))

/-- The second result, with the rows of the table chosen by the numbers `n`. -/
def z (W : FVec Ideal S512x32 .f32) (n : IVec S32768 32) : FVec Ideal S32x32x1024 .f32 := back (taken W n)

/-- The fourth result: the numbers `n` by batch and position. -/
def idx (n : IVec S32768 32) : IVec S32x1024 32 := shapeCast S32x1024 n Facts₀.shapeCasts_S32768_S32x1024

end

end Cert.ReferenceIdeal.Value
-- ==== Proof.Choice.lean ====
module

public import proofs.«01_k».proof.Proof.Nearest
public import Idealize.ShloMosaic.Lib.Pointwise.Reduce
public import Idealize.ShloMosaic.PureOps.Ideal.Laws

/-!
# The host's choice of the least value along a row

A reduction of a table of `m` rows of 512 values, each carried with its number, gives in each row the number of the row's first
least value. The number of rows is a variable, so that the statement speaks of any table.
-/

@[expose] public section

namespace Cert.Nearest

open Idealize.ShloMosaic

/-- The reduction's number for a result index is that of the first least value of its row. -/
theorem choice {m : ℕ} {t u : Shape} (f : Ideal .f32 × BitVec 32 → Ideal .f32 × BitVec 32 → Ideal .f32 × BitVec 32) (hf : f = step)
    (D : FVec Ideal (⟨2, ![m, 512]⟩ : Shape) .f32) (ix : FVec Ideal u .f32) (iy : IVec u 32)
    (h : (⟨2, ![m, 512]⟩ : Shape).ReducesTo [1] t) (hu : 0 < u.numel) (hx : ix (Shape.Idx.first hu) = (⊤ : EReal))
    (hy : iy (Shape.Idx.first hu) = 0#32) (j : t.Idx) :
    (Host.argReduce f D (iotaInDim (⟨2, ![m, 512]⟩ : Shape) 32 1) ix iy h hu j).2 =
      BitVec.ofNat 32 (first fun k => D (ix2 ⟨(j ⟨0, h.lt_r2_a1_0⟩).val, Shape.coordLt (j ⟨0, h.lt_r2_a1_0⟩) h.size_r2_a1_0⟩ k)).val := by
  rw [Ideal.argReduce_eq_reduce2, Host.reduce2_eq_foldl_fiber, hf, hx, hy]
  refine congrArg Prod.snd (foldl_first _ _ fun p => ?_)
  unfold Host.argReduceFiber
  simp only [List.mem_map, List.mem_filter, List.mem_finRange, true_and, decide_eq_true_eq, h.fiber_r2_a1]
  constructor
  · rintro ⟨n, ⟨k, hk⟩, rfl⟩
    refine ⟨k, ?_⟩
    rw [← hk]
    rfl
  · rintro ⟨k, rfl⟩
    refine ⟨(⟨2, ![m, 512]⟩ : Shape).rowMajor (ix2 ⟨(j ⟨0, h.lt_r2_a1_0⟩).val, Shape.coordLt (j ⟨0, h.lt_r2_a1_0⟩) h.size_r2_a1_0⟩ k), ⟨k, ?_⟩, ?_⟩
    · rw [Equiv.symm_apply_apply]
    · rw [Equiv.symm_apply_apply]
      rfl

end Cert.Nearest
-- ==== Proof.Reference.lean ====
module

public import proofs.«01_k».proof.Proof.RefTerms
public import proofs.«01_k».proof.Proof.Choice

/-!
# What the reference computes

The reference's stages read at an index.
-/

@[expose] public section

set_option maxRecDepth 16384

namespace Cert.ReferenceIdeal.Value

open Idealize.ShloMosaic Cert.ReferenceIdeal Cert.Nearest

/-- The row of batch `b` and position `l`. -/
def flat (b : Fin 32) (l : Fin 1024) : Fin 32768 := ⟨b.val * 1024 + l.val, by omega⟩

/-- The row of batch `b` and position `l` is that column of `x`. -/
theorem rows_at (X : FVec Ideal S32x32x1024 .f32) (b : Fin 32) (l : Fin 1024) (c : Fin 32) :
    rows X (ix2 (flat b l) c) = X (ix3 b c l) := by
  unfold rows flat
  pointwise

/-- The word of the literal 2. -/
theorem lit_two : Ideal.ofBits .f32 0x40000000#32 = 2 := by
  simp [Ideal.ofBits, Ideal.ieee]
  rw [← EReal.coe_mul]
  norm_num
  rfl

/-- The distances of a row are those of its column to the table's rows. -/
theorem dists_at (X : FVec Ideal S32x32x1024 .f32) (W : FVec Ideal S512x32 .f32) (b : Fin 32) (l : Fin 1024) (k : Fin 512) :
    dists X W (ix2 (flat b l) k) = dist' (fun c => X (ix3 b c l)) (fun k c => W (ix2 k c)) k := by
  unfold dists rowNorms tableNorms products
  pointwise
  simp only [rows_at, lit_two]
  have e : (id (constant S_ FTy.f32 0#32) ix0 : Ideal .f32) = (0 : EReal) := by
    show Ideal.ofBits .f32 0#32 = (0 : EReal)
    simp [Ideal.ofBits, Ideal.ieee]
  rw [e]
  rfl

/-- Rows put back hold the entry of their batch and position. -/
theorem back_at (R : FVec Ideal S32768x32 .f32) (b : Fin 32) (c : Fin 32) (l : Fin 1024) :
    back R (ix3 b c l) = R (ix2 (flat b l) c) := by
  unfold back flat
  pointwise

/-- A row number is no negative number. -/
theorem not_negative (j : Fin 512) : IntOp.cmpi CmpIPredicate.slt (BitVec.ofNat 32 j.val) 0#32 = 0#1 := by
  have e := toInt_small j.val j.isLt
  have hj : ¬ (j.val : ℤ) < 0 := by omega
  simp only [IntOp.cmpi, BitVec.slt, e, BitVec.toInt_zero, hj]
  rfl

/-- A row number is left as it is. -/
theorem wrapped_at (n : IVec S32768 32) (r : Fin 32768) (j : Fin 512) (h : n (ix1 r) = BitVec.ofNat 32 j.val) :
    wrapped n (ix2 r (0 : Fin 1)) = BitVec.ofNat 32 j.val := by
  unfold wrapped
  pointwise
  rw [h, not_negative]
  rfl

/-- A row number lies within the table. -/
theorem is_within (j : Fin 512) :
    IntOp.andi (IntOp.cmpi CmpIPredicate.sge (BitVec.ofNat 32 j.val) 0#32)
      (IntOp.cmpi CmpIPredicate.sle (BitVec.ofNat 32 j.val) 511#32) = 1#1 := by
  have e := toInt_small j.val j.isLt
  have hj : (j.val : ℤ) ≤ 511 := by omega
  simp only [IntOp.cmpi, IntOp.andi, BitVec.sle, e]
  simp [hj]

/-- A row number passes the check of the bounds. -/
theorem within_at (i : IVec S32768x1 32) (r : Fin 32768) (j : Fin 512) (h : i (ix2 r (0 : Fin 1)) = BitVec.ofNat 32 j.val) :
    within i (ix1 r) = 1#1 := by
  unfold within
  pointwise
  rw [show (Finset.univ : Finset (Fin 1)) = {0} from rfl, Finset.fold_singleton, h, is_within]
  rfl

/-- Where the number is `j`, the row taken is row `j` of the table. -/
theorem taken_at (W : FVec Ideal S512x32 .f32) (n : IVec S32768 32) (r : Fin 32768) (c : Fin 32) (j : Fin 512)
    (h : n (ix1 r) = BitVec.ofNat 32 j.val) : taken W n (ix2 r c) = W (ix2 j c) := by
  unfold taken
  pointwise
  rw [within_at _ r j (wrapped_at n r j h)]
  exact Routing.gather_row gather_S512x32_S32768x1_S32768x32_1_0_n_n_0_1_132 rfl rfl rfl rfl rfl W (wrapped n) r c j (wrapped_at n r j h) (by norm_num)

/-- The reference's pass over a row is the pass that carries a value with its number. -/
theorem reducer_eq : (reducer_argmin_f32_i32 : Ideal .f32 × BitVec 32 → Ideal .f32 × BitVec 32 → Ideal .f32 × BitVec 32) = step := by
  funext a b
  unfold reducer_argmin_f32_i32 step
  simp only [Ideal.cmpf_def, Ideal.cmp, IntOp.cmpi, IntOp.ori, IntOp.andi, Scalar.select, BitVec.slt]
  by_cases h₁ : a.1 < b.1 <;> by_cases h₂ : a.1 = b.1 <;> by_cases h₃ : a.2.toInt < b.2.toInt <;> simp [h₁, h₂, h₃]

/-- The reduction starts at infinity. -/
theorem lit_top : (constant S_ .f32 0x7F800000#32 : FVec Ideal S_ .f32) (Shape.Idx.first Facts₀.h_S_) = (⊤ : EReal) := by
  show Ideal.ofBits .f32 0x7F800000#32 = (⊤ : EReal)
  simp [Ideal.ofBits, Ideal.ieee]

/-- The numbers as the reduction that the reference prints. -/
theorem nums_def (D : FVec Ideal S32768x512 .f32) : nums D = fun j =>
    (Host.argReduce reducer_argmin_f32_i32 D (iotaInDim S32768x512 32 1) (constant S_ .f32 0x7F800000#32) (constantI S_ 32 0#32)
      Facts₀.reducesTo_S32768x512_S32768_d1 Facts₀.h_S_ j).2 := rfl

/-- A row's number is that of its first least distance. -/
theorem nums_at (D : FVec Ideal S32768x512 .f32) (r : Fin 32768) :
    nums D (ix1 r) = BitVec.ofNat 32 (first fun k => D (ix2 r k)).val := by
  have e := (nums_def D).trans <| funext fun j => choice reducer_argmin_f32_i32 reducer_eq D (constant S_ .f32 0x7F800000#32) (constantI S_ 32 0#32)
    Facts₀.reducesTo_S32768x512_S32768_d1 Facts₀.h_S_ lit_top rfl j
  exact congrFun e (ix1 r)

/-- The second result, where the number is `j`. -/
theorem z_at (W : FVec Ideal S512x32 .f32) (n : IVec S32768 32) (b : Fin 32) (c : Fin 32) (l : Fin 1024) (j : Fin 512)
    (h : n (ix1 (flat b l)) = BitVec.ofNat 32 j.val) : z W n (ix3 b c l) = W (ix2 j c) := by
  unfold z
  rw [back_at, taken_at W n _ c j h]

/-- The first result, where the number is `j`. -/
theorem zq_at (X : FVec Ideal S32x32x1024 .f32) (W : FVec Ideal S512x32 .f32) (n : IVec S32768 32) (b : Fin 32) (c : Fin 32)
    (l : Fin 1024) (j : Fin 512) (h : n (ix1 (flat b l)) = BitVec.ofNat 32 j.val) :
    zq X W n (ix3 b c l) = X (ix3 b c l) + (W (ix2 j c) - X (ix3 b c l)) := by
  unfold zq
  rw [back_at]
  pointwise
  rw [rows_at, taken_at W n _ c j h]

/-- The fourth result is the number of the row of its batch and position. -/
theorem idx_at (n : IVec S32768 32) (b : Fin 32) (l : Fin 1024) : idx n (ix2 b l) = n (ix1 (flat b l)) := by
  unfold idx flat
  pointwise

end Cert.ReferenceIdeal.Value
-- ==== Proof.Equation.lean ====
module

public import proofs.«01_k».proof.Proof.Arrays
public import proofs.«01_k».proof.Proof.Reference
public import proofs.«01_k».proof.Pre_finite
public import Idealize.ShloMosaic.Lib.ReduceAll

/-!
# The equation

Where every entry of the columns and of the table is a real number, the numbers the reference chooses are the numbers the
kernel chooses, and so each of the reference's results is the array the kernel leaves.
-/

@[expose] public section

set_option maxRecDepth 16384

namespace Cert.Equation

open Idealize.ShloMosaic Cert.Nearest
open Cert.KernelIdeal.Arrays (nearest resZ resZq resIdx)
open Cert.KernelIdeal.Buffer (exists_ix3)
open Cert.ReferenceIdeal.Value

/-- The side conditions that the precondition states of its shapes. -/
instance preFinite : Cert.Pre_finite.Facts where
  bcast_S_S32x32x1024 := by decide
  reducesTo_S32x32x1024_S_d0_1_2 := by decide
  h_S_ := by decide
  bcast_S_S512x32 := by decide
  reducesTo_S512x32_S_d0_1 := by decide

/-- An extended real of magnitude below `⊤` is a real number. -/
theorem real_of_lt (a : EReal) (h : max a (-a) < ⊤) : a = (a.toReal : EReal) := by
  obtain ⟨h₁, h₂⟩ := max_lt_iff.1 h
  refine (EReal.coe_toReal h₁.ne ?_).symm
  rintro rfl
  simp at h₂

/-- The precondition's comparison, read back. -/
theorem lt_of_word (a : EReal)
    (h : FloatOps.cmpf (F := Ideal) (φ := .f32) .olt (FloatOps.absf (F := Ideal) (φ := .f32) a) (Ideal.ofBits .f32 0x7F800000#32) = 1#1) :
    max a (-a) < ⊤ := by
  rw [Ideal.cmpf_def, Ideal.absf_def] at h
  have e : Ideal.ofBits .f32 0x7F800000#32 = (⊤ : EReal) := by simp [Ideal.ofBits, Ideal.ieee]
  rw [e] at h
  by_contra hn
  simp [Ideal.cmp, hn] at h

/-- The precondition says that the entries of both arrays are real numbers. -/
theorem finite_entries (X : FVec Ideal Cert.Pre_finite.S32x32x1024 .f32) (W : FVec Ideal Cert.Pre_finite.S512x32 .f32)
    (h : Cert.Pre_finite.fn X W = fun _ => 1#1) :
    (∀ i, X i = ((X i).toReal : EReal)) ∧ ∀ i, W i = ((W i).toReal : EReal) := by
  have hs : Subsingleton Cert.Pre_finite.S_.Idx := ⟨fun a b => funext fun k => k.elim0⟩
  obtain ⟨h₁, h₂⟩ := IntOp.andi_eq_one.1 (congrFun h ix0)
  exact ⟨fun i => real_of_lt _ (lt_of_word _ (Host.reduce_andi_all _ _ _ _ _ h₁ i)),
    fun i => real_of_lt _ (lt_of_word _ (Host.reduce_andi_all _ _ _ _ _ h₂ i))⟩

/-- The reference's number of a row is the kernel's. -/
theorem nums_eq (X : FVec Ideal Cert.ReferenceIdeal.S32x32x1024 .f32) (W : FVec Ideal Cert.ReferenceIdeal.S512x32 .f32)
    (hX : ∀ i, X i = ((X i).toReal : EReal)) (hW : ∀ i, W i = ((W i).toReal : EReal)) (b : Fin 32) (l : Fin 1024) :
    nums (dists X W) (ix1 (flat b l)) = BitVec.ofNat 32 (nearest X W b l).val := by
  have e := dist_eq (fun c => X (ix3 b c l)) (fun k c => W (ix2 k c)) (fun c => (X (ix3 b c l)).toReal)
    (fun k c => (W (ix2 k c)).toReal) (fun c => hX _) (fun k c => hW _)
  rw [nums_at, funext (dists_at X W b l)]
  exact congrArg (fun D => BitVec.ofNat 32 (first D).val) e

section

variable (X : FVec Ideal Cert.ReferenceIdeal.S32x32x1024 .f32) (W : FVec Ideal Cert.ReferenceIdeal.S512x32 .f32)
  (n : IVec Cert.ReferenceIdeal.S32768 32) (hX : ∀ i, X i = ((X i).toReal : EReal)) (hW : ∀ i, W i = ((W i).toReal : EReal))
  (hn : n = nums (dists X W))

include hX hW hn

/-- The first result. -/
theorem zq_eq : zq X W n = resZq X W := by
  subst hn
  funext y
  obtain ⟨b, c, l, rfl⟩ := exists_ix3 y
  exact zq_at X W _ b c l _ (nums_eq X W hX hW b l)

/-- The second result. -/
theorem z_eq : z W n = resZ X W := by
  subst hn
  funext y
  obtain ⟨b, c, l, rfl⟩ := exists_ix3 y
  exact z_at W _ b c l _ (nums_eq X W hX hW b l)

/-- The fourth result. -/
theorem idx_eq : idx n = resIdx X W := by
  subst hn
  funext y
  idx_vars y
  exact (idx_at _ y0 y1).trans (nums_eq X W hX hW y0 y1)

end

end Cert.Equation
-- ==== Proof.Algebraic.lean ====
module

public import proofs.«01_k».proof.Defs
public import proofs.«01_k».proof.Proof.Equation
public import Idealize.ShloMosaic.Lib.Claim

/-!
# The kernel's results are the reference's

Both programs run from memories that agree on the arguments. The kernel's results are the arrays its launch leaves; the
reference's are its composed terms, and the equation says that these are the same arrays.
-/

@[expose] public section

set_option maxRecDepth 16384

namespace Cert.Algebraic

open Idealize.ShloMosaic Cert.Equation Cert.ReferenceIdeal.Value

/-- The reduction that chooses the numbers, as a function that nothing unfolds: with the operands of the reference's own
    reduction it is `nums`. -/
theorem choice_named : ∃ sel : FVec Ideal Cert.ReferenceIdeal.S32768x512 .f32 → IVec Cert.ReferenceIdeal.S32768x512 32 →
      FVec Ideal Cert.ReferenceIdeal.S_ .f32 → IVec Cert.ReferenceIdeal.S_ 32 → IVec Cert.ReferenceIdeal.S32768 32,
    (∀ D i u v, (fun j => (Host.argReduce Cert.ReferenceIdeal.reducer_argmin_f32_i32 D i u v
      Cert.ReferenceIdeal.Facts₀.reducesTo_S32768x512_S32768_d1 Cert.ReferenceIdeal.Facts₀.h_S_ j).2) = sel D i u v)
    ∧ ∀ D, sel D (iotaInDim Cert.ReferenceIdeal.S32768x512 32 1) (constant Cert.ReferenceIdeal.S_ .f32 0x7F800000#32)
      (constantI Cert.ReferenceIdeal.S_ 32 0#32) = nums D :=
  ⟨_, fun _ _ _ _ => rfl, fun D => (nums_def D).symm⟩

/-- Over the extended reals, where every entry is real, the kernel's four results are the reference's. -/
theorem equal : Cert.algebraic_KernelIdeal_ReferenceIdeal_pre_finite := by
  pair_intro
  · run_from Cert.KernelIdeal.Gen.run_main m g
  · have hf := fun c => finite_entries _ _ (hpre c)
    obtain ⟨sel, hsel, hnums⟩ := choice_named
    hlo_run
    · rw [hsel]
      generalize hn : sel _ _ _ _ = n
      have h := zq_eq _ _ n (hf c).1 (hf c).2 (hn.symm.trans (hnums _))
      simp -implicitDefEqProofs only [StableHlo.TRef.toBuf, StableHlo.TRef.ofBuf, cast_cast, cast_eq]
      exact h.trans (Cert.KernelIdeal.Arrays.array_zq m c).symm
    · rw [hsel]
      generalize hn : sel _ _ _ _ = n
      have h := z_eq _ _ n (hf c).1 (hf c).2 (hn.symm.trans (hnums _))
      simp -implicitDefEqProofs only [StableHlo.TRef.toBuf, StableHlo.TRef.ofBuf, cast_cast, cast_eq]
      exact h.trans (Cert.KernelIdeal.Arrays.array_z m c).symm
    · exact (Cert.KernelIdeal.Arrays.array_x m c).symm
    · rw [hsel]
      generalize hn : sel _ _ _ _ = n
      have h := idx_eq _ _ n (hf c).1 (hf c).2 (hn.symm.trans (hnums _))
      simp -implicitDefEqProofs only [StableHlo.TRef.toBuf, StableHlo.TRef.ofBuf, cast_cast, cast_eq]
      exact h.trans (Cert.KernelIdeal.Arrays.result_idx m c).symm

end Cert.Algebraic
-- ==== Proof.lean ====
module

public import proofs.«01_k».proof.Defs
public import proofs.«01_k».proof.Proof.Gen.Kernel.Frame
public import proofs.«01_k».proof.Proof.Gen.KernelIdeal.Frame
public import proofs.«01_k».proof.Proof.Frame
public import proofs.«01_k».proof.Proof.Algebraic

/-!
# The claim

The two kernel programs and the reference leave their arguments as they were, the ideal kernel is the kernel's own text, and
its results are the reference's.
-/

@[expose] public section

namespace Cert.Proof

open Idealize.ShloMosaic

/-- The claim of this directory. -/
theorem claim : Cert.Claim :=
  ⟨Cert.Kernel.Gen.facts, Cert.KernelIdeal.Gen.facts, Cert.ReferenceIdeal.Gen.facts, Cert.Equation.preFinite,
    fun m g _ => Cert.Kernel.Gen.frame m g, fun m g _ => Cert.KernelIdeal.Gen.frame m g,
    fun m g _ => Cert.KernelIdeal.Gen.frame m g, Cert.ReferenceIdeal.frame, fun m g _ => Cert.ReferenceIdeal.frame m g trivial,
    trivial, Cert.Algebraic.equal⟩

end Cert.Proof
